-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bits_and_finite [hPre_bits_and_finite : Cert.Pre_bits_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bits_and_finite [hPre_bits_and_finite : Cert.Pre_bits_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bits_and_finite [hKernelIdeal : Cert.KernelIdeal.Facts] [hPre_bits_and_finite : Cert.Pre_bits_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bits_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bits_and_finite [hReferenceIdeal : Cert.ReferenceIdeal.Facts] [hPre_bits_and_finite : Cert.Pre_bits_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bits_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bits_and_finite [hKernelIdeal : Cert.KernelIdeal.Facts] [hReferenceIdeal : Cert.ReferenceIdeal.Facts] [hPre_bits_and_finite : Cert.Pre_bits_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bits_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bits_and_finite : Cert.Pre_bits_and_finite.Facts),
    quiescent_Kernel (hKernel := hKernel)
    ∧ quiescent_KernelIdeal (hKernelIdeal := hKernelIdeal)
    ∧ quiescent_KernelIdeal_pre_bits_and_finite (hKernelIdeal := hKernelIdeal) (hPre_bits_and_finite := hPre_bits_and_finite)
    ∧ quiescent_ReferenceIdeal (hReferenceIdeal := hReferenceIdeal)
    ∧ quiescent_ReferenceIdeal_pre_bits_and_finite (hReferenceIdeal := hReferenceIdeal) (hPre_bits_and_finite := hPre_bits_and_finite)
    ∧ preserves_Kernel_KernelIdeal
    ∧ algebraic_KernelIdeal_ReferenceIdeal_pre_bits_and_finite (hKernelIdeal := hKernelIdeal) (hReferenceIdeal := hReferenceIdeal) (hPre_bits_and_finite := hPre_bits_and_finite)
-- ==== Pre_bits_and_finite.lean ====
abbrev S16x512x8000 : Shape := ⟨3, ![16, 512, 8000]⟩
abbrev S16x16 : Shape := ⟨2, ![16, 16]⟩
abbrev S32x512 : Shape := ⟨2, ![32, 512]⟩
abbrev S_ : Shape := ⟨0, ![]⟩
abbrev S16x512 : Shape := ⟨2, ![16, 512]⟩

class Facts : Prop where
  bcast_S_S16x16 : S_.BroadcastsInDim S16x16 (![] : Fin 0 → Fin S16x16.rank)
  reducesTo_S16x16_S_d0_1 : S16x16.ReducesTo [0, 1] S_
  h_S_ : 0 < S_.numel
  slicesBy_S32x512_S16x512_0s2_0s1 : S32x512.SlicesBy (![0, 0] : Fin 2 → Nat) ![2, 1] S16x512
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16x512x8000 .f32) (main_arg1 : IVec S16x16 32) (main_arg2 : FVec F S32x512 .f32) : IVec S_ 1 :=
  let main_c : IVec S_ 32 := constantI S_ 32 0#32
  let main_v0 : IVec S16x16 32 := broadcastInDim S16x16 ![] bcast_S_S16x16 main_c
  let main_v1 : IVec S16x16 1 := cmpi .eq main_arg1 main_v0
  let main_c_0 : IVec S_ 32 := constantI S_ 32 1#32
  let main_v2 : IVec S16x16 32 := broadcastInDim S16x16 ![] bcast_S_S16x16 main_c_0
  let main_v3 : IVec S16x16 1 := cmpi .eq main_arg1 main_v2
  let main_v4 : IVec S16x16 1 := ori main_v1 main_v3
  let main_c_1 : IVec S_ 1 := constantI S_ 1 1#1
  let main_v5 : IVec S_ 1 := (fun x v => Host.reduce IntOp.andi x v reducesTo_S16x16_S_d0_1 h_S_) main_v4 main_c_1
  let main_v6 : FVec F S16x512 .f32 := (Host.slice S16x512 ![0, 0] ![2, 1] · slicesBy_S32x512_S16x512_0s2_0s1) main_arg2
  let main_v7 : FVec F S16x512 .f32 := Host.absf main_v6
  let main_cst : FVec F S_ .f32 := constant S_ .f32 0x7F800000#32
  let main_v8 : FVec F S16x512 .f32 := broadcastInDim S16x512 ![] bcast_S_S16x512 main_cst
  let main_v9 : IVec S16x512 1 := cmpf .olt main_v7 main_v8
  let main_c_2 : IVec S_ 1 := constantI S_ 1 1#1
  let main_v10 : IVec S_ 1 := (fun x v => Host.reduce IntOp.andi x v reducesTo_S16x512_S_d0_1 h_S_) main_v9 main_c_2
  let main_v11 : IVec S_ 1 := andi main_v5 main_v10
  main_v11
-- ==== Kernel.lean ====
abbrev S16x512x8000 : Shape := ⟨3, ![16, 512, 8000]⟩
abbrev S16x16 : Shape := ⟨2, ![16, 16]⟩
abbrev S32x512 : Shape := ⟨2, ![32, 512]⟩
abbrev S16x512 : Shape := ⟨2, ![16, 512]⟩
abbrev S16x8000x512 : Shape := ⟨3, ![16, 8000, 512]⟩
abbrev S128000x512 : Shape := ⟨2, ![128000, 512]⟩
abbrev S4000x512 : Shape := ⟨2, ![4000, 512]⟩
abbrev S1x512 : Shape := ⟨2, ![1, 512]⟩
abbrev S512 : Shape := ⟨1, ![512]⟩
abbrev S1x1 : Shape := ⟨2, ![1, 1]⟩

abbrev nBuf : Space → Nat
  | .hbm => 11
  | .vmem => 7
  | .smem => 1
  | _ => 0

abbrev bufTy : (tb : Table) → Fin (tcTables nBuf tb) → BufTy
  | .hbm, ⟨0, _⟩ => ⟨S16x512x8000, .f32⟩
  | .hbm, ⟨1, _⟩ => ⟨S16x16, .i32⟩
  | .hbm, ⟨2, _⟩ => ⟨S32x512, .f32⟩
  | .hbm, ⟨3, _⟩ => ⟨S16x512, .f32⟩
  | .hbm, ⟨4, _⟩ => ⟨S16x512, .f32⟩
  | .hbm, ⟨5, _⟩ => ⟨S16x16, .f32⟩
  | .hbm, ⟨6, _⟩ => ⟨S16x8000x512, .f32⟩
  | .hbm, ⟨7, _⟩ => ⟨S128000x512, .f32⟩
  | .hbm, ⟨8, _⟩ => ⟨S128000x512, .f32⟩
  | .hbm, ⟨9, _⟩ => ⟨S16x8000x512, .f32⟩
  | .hbm, ⟨10, _⟩ => ⟨S16x512x8000, .f32⟩
  | .local _ .vmem, ⟨0, _⟩ => ⟨S16x512, .f32⟩
  | .local _ .vmem, ⟨1, _⟩ => ⟨S16x512, .f32⟩
  | .local _ .vmem, ⟨2, _⟩ => ⟨S4000x512, .f32⟩
  | .local _ .vmem, ⟨3, _⟩ => ⟨S4000x512, .f32⟩
  | .local _ .vmem, ⟨4, _⟩ => ⟨S4000x512, .f32⟩
  | .local _ .vmem, ⟨5, _⟩ => ⟨S4000x512, .f32⟩
  | .local _ .vmem, ⟨6, _⟩ => ⟨S1x512, .f32⟩
  | .local _ .smem, ⟨0, _⟩ => ⟨S16x16, .f32⟩
  | _, _ => ⟨S16x512x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let v28 : BitVec 32 := Scalar.extui v27
  let c0_i32_11 : BitVec 32 := 0#32
  let v29 : BitVec 1 := Scalar.cmpi .ne v28 c0_i32_11
  v29

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v43 : Index := Scalar.indexCast v16
  let c0_21 : Index := 0#32
  ![v43.toNat, 0]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v49 : Index := Scalar.indexCast v16
  let c1 : Index := 1#32
  ![v49.toNat, 1]
def k0_off3 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v55 : Index := Scalar.indexCast v16
  let c2 : Index := 2#32
  ![v55.toNat, 2]
def k0_off4 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v61 : Index := Scalar.indexCast v16
  let c3 : Index := 3#32
  ![v61.toNat, 3]
def k0_off5 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v67 : Index := Scalar.indexCast v16
  let c4 : Index := 4#32
  ![v67.toNat, 4]
def k0_off6 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v73 : Index := Scalar.indexCast v16
  let c5 : Index := 5#32
  ![v73.toNat, 5]
def k0_off7 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v79 : Index := Scalar.indexCast v16
  let c6 : Index := 6#32
  ![v79.toNat, 6]
def k0_off8 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v85 : Index := Scalar.indexCast v16
  let c7 : Index := 7#32
  ![v85.toNat, 7]
def k0_off9 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v91 : Index := Scalar.indexCast v16
  let c8 : Index := 8#32
  ![v91.toNat, 8]
def k0_off10 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v97 : Index := Scalar.indexCast v16
  let c9 : Index := 9#32
  ![v97.toNat, 9]
def k0_off11 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v103 : Index := Scalar.indexCast v16
  let c10 : Index := 10#32
  ![v103.toNat, 10]
def k0_off12 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v109 : Index := Scalar.indexCast v16
  let c11 : Index := 11#32
  ![v109.toNat, 11]
def k0_off13 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v115 : Index := Scalar.indexCast v16
  let c12 : Index := 12#32
  ![v115.toNat, 12]
def k0_off14 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v121 : Index := Scalar.indexCast v16
  let c13 : Index := 13#32
  ![v121.toNat, 13]
def k0_off15 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v127 : Index := Scalar.indexCast v16
  let c14 : Index := 14#32
  ![v127.toNat, 14]
def k0_off16 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v133 : Index := Scalar.indexCast v16
  let c15 : Index := 15#32
  ![v133.toNat, 15]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x512x8000 : Shape := ⟨3, ![16, 512, 8000]⟩
abbrev S16x16 : Shape := ⟨2, ![16, 16]⟩
abbrev S32x512 : Shape := ⟨2, ![32, 512]⟩
abbrev S16 : Shape := ⟨1, ![16]⟩
abbrev S_ : Shape := ⟨0, ![]⟩
abbrev S1x16 : Shape := ⟨2, ![1, 16]⟩
abbrev S1x1x1x16 : Shape := ⟨4, ![1, 1, 1, 16]⟩
abbrev S16x1x1x16 : Shape := ⟨4, ![16, 1, 1, 16]⟩
abbrev S16x16x1 : Shape := ⟨3, ![16, 16, 1]⟩
abbrev S1 : Shape := ⟨1, ![1]⟩
abbrev S1x1x1 : Shape := ⟨3, ![1, 1, 1]⟩
abbrev S16x16x512 : Shape := ⟨3, ![16, 16, 512]⟩
abbrev S16x512 : Shape := ⟨2, ![16, 512]⟩
abbrev S16x512x1 : Shape := ⟨3, ![16, 512, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x512x8000, .f32⟩
  | .hbm, ⟨1, _⟩ => ⟨S16x16, .i32⟩
  | .hbm, ⟨2, _⟩ => ⟨S32x512, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S1x16, .i32⟩
  | .hbm, ⟨8, _⟩ => ⟨S1x1x1x16, .i32⟩
  | .hbm, ⟨9, _⟩ => ⟨S16x1x1x16, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i1⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .i32⟩
  | .hbm, ⟨19, _⟩ => ⟨S16x16x1, .i32⟩
  | .hbm, ⟨20, _⟩ => ⟨S1, .i32⟩
  | .hbm, ⟨21, _⟩ => ⟨S_, .i32⟩
  | .hbm, ⟨22, _⟩ => ⟨S16x16x1, .i32⟩
  | .hbm, ⟨23, _⟩ => ⟨S16x16x1, .i1⟩
  | .hbm, ⟨24, _⟩ => ⟨S1x1x1, .i32⟩
  | .hbm, ⟨25, _⟩ => ⟨S16x16x1, .i32⟩
  | .hbm, ⟨26, _⟩ => ⟨S16x16x1, .i1⟩
  | .hbm, ⟨27, _⟩ => ⟨S16x16x1, .i1⟩
  | .hbm, ⟨28, _⟩ => ⟨S_, .i1⟩
  | .hbm, ⟨29, _⟩ => ⟨S16x16, .i1⟩
  | .hbm, ⟨30, _⟩ => ⟨S16x16x512, .f32⟩
  | .hbm, ⟨31, _⟩ => ⟨S16x16x512, .i1⟩
  | .hbm, ⟨32, _⟩ => ⟨S_, .f32⟩
  | .hbm, ⟨33, _⟩ => ⟨S16x16x512, .f32⟩
  | .hbm, ⟨34, _⟩ => ⟨S16x16x512, .f32⟩
  | .hbm, ⟨35, _⟩ => ⟨S_, .f32⟩
  | .hbm, ⟨36, _⟩ => ⟨S16x512, .f32⟩
  | .hbm, ⟨37, _⟩ => ⟨S16x512x1, .f32⟩
  | .hbm, ⟨38, _⟩ => ⟨S16x512x8000, .f32⟩
  | .hbm, ⟨39, _⟩ => ⟨S16x512x8000, .f32⟩
  | _, _ => ⟨S16x512x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩

abbrev nD : Nat := 1
abbrev τ : Topo := Topo.v7x

variable {F : FTy → Type} [FloatOps F]
-- ==== Proof.Block.lean ====
/-
  What one grid point's body leaves in the result's block and in the carried row, as terms of the blocks it reads.
-/
module

public import proofs.«01_k».proof.Proof.Gen.KernelIdeal.Frame
public import Idealize.ShloMosaic.Lib.Pipeline.Value
public import Idealize.ShloMosaic.Lib.Pointwise
public import Idealize.ShloMosaic.Lib.Tactic

@[expose] public section

set_option maxRecDepth 16384

noncomputable section

namespace Cert.KernelIdeal.Value

open Cert.KernelIdeal Cert.KernelIdeal.Gen
open Idealize.ShloMosaic Idealize.ShloMosaic.TcCoe Idealize.SL.Sem

variable {F : FTy → Type} [FloatOps F]

/-- The offset written out with two zeros is the zero offset. -/
theorem off_zero : (![0, 0] : Fin 2 → Nat) = fun _ => 0 := funext fun a => by fin_cases a <;> rfl

/-- The batch that a grid point works on: two consecutive points share one. -/
def batch (i : grid0.Coords) : Fin 16 :=
  ⟨(i 0).val / 2, by have h : (i 0).val < 32 := (i 0).isLt; omega⟩

/-- The row that the first point of a batch computes, from the bits (as floats) and the rows of the zeros and of the
    ones: the sum of the zeros' rows, then bit by bit the bit times the difference of its two rows. -/
def accRow (x0 : Vec F S16x16 .f32) (x1 x2 : Vec F S16x512 .f32) (b : Fin 16) : Vec F S1x512 .f32 :=
  k0_pay6 (k0_pay2 x1 x2)
    (k0_pay5 (k0_pay2 x1 x2)
      (k0_pay3 x1 x2 (x0 (ix2 b 0)) (x0 (ix2 b 1)) (x0 (ix2 b 2)) (x0 (ix2 b 3)) (x0 (ix2 b 4)) (x0 (ix2 b 5)))
      (k0_pay4 x1 x2 (x0 (ix2 b 6)))
      (x0 (ix2 b 7)) (x0 (ix2 b 8)) (x0 (ix2 b 9)) (x0 (ix2 b 10)) (x0 (ix2 b 11)) (x0 (ix2 b 12)) (x0 (ix2 b 13))
      (x0 (ix2 b 14)))
    (x0 (ix2 b 15))

/-- The number of a point's batch as the body computes it, in words. -/
abbrev batchWord (n : Fin 32) : Nat :=
  BitVec.toNat (Scalar.indexCast (Scalar.select
    (Scalar.andi
      (Scalar.cmpi .ne
        (Scalar.subi (Scalar.extui (Scalar.cmpi .sgt (BitVec.ofNat 32 n.val) 0#32))
          (Scalar.extui (Scalar.cmpi .slt (BitVec.ofNat 32 n.val) 0#32)))
        (Scalar.subi (Scalar.extui (Scalar.cmpi .sgt 2#32 0#32)) (Scalar.extui (Scalar.cmpi .slt 2#32 0#32)) : BitVec 32))
      (Scalar.cmpi .ne (Scalar.remsi (BitVec.ofNat 32 n.val) 2#32) 0#32))
    (Scalar.subi (Scalar.divsi (BitVec.ofNat 32 n.val) 2#32) 1#32)
    (Scalar.divsi (BitVec.ofNat 32 n.val) 2#32)))

/-- It is the half of the point, rounded down. -/
theorem word_batch : ∀ n : Fin 32, batchWord n = n.val / 2 := by
  decide +kernel

/-- A load of one cell of the table of bits reads that cell. -/
theorem ld_cell (x : Vec F S16x16 .f32) (off : Fin 2 → Nat) (hb : ∀ a, off a + (![1, 1] : Fin 2 → Nat) a ≤ S16x16.size a)
    (hp : 0 < (Shape.mk 2 ![1, 1]).numel) (b k : Fin 16) (h : off = ![b.val, k.val]) :
    View.ld x (Rect.unit (s := S16x16) off ![1, 1] hb) (Shape.Idx.first hp) = x (ix2 b k) := by
  subst h
  refine congrArg x ?_
  funext a
  apply Fin.ext
  match a with
  | ⟨0, _⟩ => rfl
  | ⟨1, _⟩ => rfl

/-- What the first point of a batch leaves in the carried row. -/
theorem sout_A (c : Dev nD) (i : grid0.Coords) (a1 : Memref sig .tc .smem S16x16 .f32) (h1 : a1.IsWhole)
    (a2 : Memref sig .tc .vmem S16x512 .f32) (h2 : a2.IsWhole) (a3 : Memref sig .tc .vmem S16x512 .f32) (h3 : a3.IsWhole)
    (a4 : Memref sig .tc .vmem S4000x512 .f32) (h4 : a4.IsWhole) (a5 : Memref sig .tc .vmem S4000x512 .f32) (h5 : a5.IsWhole)
    (a6 : Memref sig .tc .vmem S1x512 .f32) (h6 : a6.IsWhole) (hc : cond0_0 i)
    (x0 : Vec F S16x16 .f32) (x1 x2 : Vec F S16x512 .f32) (x3 : Vec F S4000x512 .f32) :
    sout0_A_0 c i a1 h1 a2 h2 a3 h3 a4 h4 a5 h5 a6 h6 hc x0 x1 x2 x3 = accRow x0 x1 x2 (batch i) := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero off_zero]
  simp only [View.readAt_eq_ld, h1.read_unread, h2.read_unread, h3.read_unread, View.ld_unit_zero (S := S16x512) off_zero, shapeCast_self]
  unfold accRow
  have cell : ∀ (k : Fin 16) (off : Fin 2 → Nat) hb hp, off = ![batchWord (i 0), k.val] →
      View.ld x0 (Rect.unit (s := S16x16) off ![1, 1] hb) (Shape.Idx.first hp) = x0 (ix2 (batch i) k) := fun k off hb hp h =>
    ld_cell x0 off hb hp (batch i) k (h.trans (by rw [word_batch (i 0)]; rfl))
  congr 1
  · congr 1
    · congr 1 <;> exact cell _ _ _ _ rfl
    · congr 1
      exact cell _ _ _ _ rfl
    all_goals exact cell _ _ _ _ rfl
  · exact cell _ _ _ _ rfl

/-- What the first point of a batch writes: the block of rows plus the row it has just made. -/
theorem out_A (c : Dev nD) (i : grid0.Coords) (a1 : Memref sig .tc .smem S16x16 .f32) (h1 : a1.IsWhole)
    (a2 : Memref sig .tc .vmem S16x512 .f32) (h2 : a2.IsWhole) (a3 : Memref sig .tc .vmem S16x512 .f32) (h3 : a3.IsWhole)
    (a4 : Memref sig .tc .vmem S4000x512 .f32) (h4 : a4.IsWhole) (a5 : Memref sig .tc .vmem S4000x512 .f32) (h5 : a5.IsWhole)
    (a6 : Memref sig .tc .vmem S1x512 .f32) (h6 : a6.IsWhole) (hc : cond0_0 i)
    (x0 : Vec F S16x16 .f32) (x1 x2 : Vec F S16x512 .f32) (x3 : Vec F S4000x512 .f32) :
    out0_A_4 c i a1 h1 a2 h2 a3 h3 a4 h4 a5 h5 a6 h6 hc x0 x1 x2 x3 =
      k0_pay7 x3 (sout0_A_0 c i a1 h1 a2 h2 a3 h3 a4 h4 a5 h5 a6 h6 hc x0 x1 x2 x3) := by
  unfold sout0_A_0
  rw [View.read_writes_eq_canon _ _ _ (scover0_A_0 c i a1 h1 a2 h2 a3 h3 a4 h4 a5 h5 a6 h6 hc x0 x1 x2 x3)]
  unfold out0_A_4
  rw [View.read_writes_eq_canon _ _ _ (cover0_A_4 c i a1 h1 a2 h2 a3 h3 a4 h4 a5 h5 a6 h6 hc x0 x1 x2 x3)]
  unfold kernelRun0_A
  dsimp only
  rw [View.canon_unit_zero off_zero]
  simp only [View.readAt_eq_ld, h4.read_unread, View.ld_unit_zero (S := S4000x512) off_zero]
  sl_unfold_words
  rw [View.canon_unit_zero off_zero, View.readCov_unit_zero (S := S1x512) _ off_zero]

/-- What the second point of a batch writes: the block of rows plus the row carried from the first. -/
theorem out_B (c : Dev nD) (i : grid0.Coords) (a1 : Memref sig .tc .smem S16x16 .f32) (h1 : a1.IsWhole)
    (a2 : Memref sig .tc .vmem S16x512 .f32) (h2 : a2.IsWhole) (a3 : Memref sig .tc .vmem S16x512 .f32) (h3 : a3.IsWhole)
    (a4 : Memref sig .tc .vmem S4000x512 .f32) (h4 : a4.IsWhole) (a5 : Memref sig .tc .vmem S4000x512 .f32) (h5 : a5.IsWhole)
    (a6 : Memref sig .tc .vmem S1x512 .f32) (h6 : a6.IsWhole) (hc : ¬cond0_0 i)
    (x0 : Vec F S16x16 .f32) (x1 x2 : Vec F S16x512 .f32) (x3 : Vec F S4000x512 .f32) (xs : Vec F S1x512 .f32) :
    out0_B_4 c i a1 h1 a2 h2 a3 h3 a4 h4 a5 h5 a6 h6 hc x0 x1 x2 x3 xs = k0_pay7 x3 xs := by
  unfold out0_B_4
  rw [View.read_writes_eq_canon _ _ _ (cover0_B_4 c i a1 h1 a2 h2 a3 h3 a4 h4 a5 h5 a6 h6 hc x0 x1 x2 x3 xs)]
  unfold kernelRun0_B
  dsimp only
  rw [View.canon_unit_zero off_zero]
  simp only [View.readAt_eq_ld, h4.read_unread, h6.read_unread, View.ld_unit_zero (S := S4000x512) off_zero, View.ld_unit_zero (S := S1x512) off_zero]

end Cert.KernelIdeal.Value

end
-- ==== Proof.Row.lean ====
/-
  The carried row over the extended reals: it is the sum, bit by bit, of the row that the bit picks.
-/
module

public import proofs.«01_k».proof.Proof.Block

@[expose] public section

noncomputable section

namespace Cert.KernelIdeal.Value

open Cert.KernelIdeal Cert.KernelIdeal.Gen
open Idealize.ShloMosaic Idealize.ShloMosaic.TcCoe Idealize.SL.Sem

/-- A finite zero's row plus the bit times the difference of the two rows is the row that the bit picks; the one's row
    may be infinite. -/
theorem add_bit_mul_sub (e o : EReal) (he : e ≠ ⊤) (he' : e ≠ ⊥) (w : BitVec 32) (hw : w = 0#32 ∨ w = 1#32) :
    e + ((w.toInt : ℝ) : EReal) * (o - e) = if w = 0#32 then e else o := by
  rcases hw with rfl | rfl
  · simp
  · lift e to ℝ using ⟨he, he'⟩
    rw [if_neg (by decide), show (((1#32 : BitVec 32).toInt : ℝ) : EReal) = 1 from by norm_num, one_mul, add_comm]
    exact EReal.sub_add_cancel

/-- Sixteen additions one after the other are one addition of a sum. -/
theorem chain_eq_sum (s : EReal) (f : Fin 16 → EReal) :
    s + f 0 + f 1 + f 2 + f 3 + f 4 + f 5 + f 6 + f 7 + f 8 + f 9 + f 10 + f 11 + f 12 + f 13 + f 14 + f 15 = s + ∑ k, f k := by
  simp only [Fin.sum_univ_succ, Fin.sum_univ_zero, add_assoc, add_zero]
  rfl

/-- The carried row at one column, for any bits and rows: the sum of the zeros' rows plus the sum of the bits times the
    differences. -/
theorem accRow_apply (x0 : Vec Ideal S16x16 .f32) (x1 x2 : Vec Ideal S16x512 .f32) (b : Fin 16) (h : Fin 512) :
    accRow x0 x1 x2 b (ix2 0 h) = (∑ k : Fin 16, (x1 (ix2 k h) : EReal)) +
      ∑ k : Fin 16, (x0 (ix2 b k) : EReal) * ((x2 (ix2 k h) : EReal) - x1 (ix2 k h)) := by
  refine Eq.trans ?_ (chain_eq_sum _ _)
  unfold accRow
  pointwise [k0_pay6, k0_pay5, k0_pay4, k0_pay3, k0_pay2, k0_pay1]

/-- With bits that are zero or one and finite rows for the zeros, the carried row is the sum of the picked rows. -/
theorem accRow_picked (w : Fin 16 → Fin 16 → BitVec 32) (hw : ∀ b k, w b k = 0#32 ∨ w b k = 1#32)
    (x0 : Vec Ideal S16x16 .f32) (h0 : ∀ b k, (x0 (ix2 b k) : EReal) = (((w b k).toInt : ℝ) : EReal))
    (x1 x2 : Vec Ideal S16x512 .f32) (h1 : ∀ k h, (x1 (ix2 k h) : EReal) ≠ ⊤ ∧ (x1 (ix2 k h) : EReal) ≠ ⊥)
    (b : Fin 16) (h : Fin 512) :
    accRow x0 x1 x2 b (ix2 0 h) = ∑ k : Fin 16, if w b k = 0#32 then (x1 (ix2 k h) : EReal) else x2 (ix2 k h) := by
  rw [accRow_apply, ← Finset.sum_add_distrib]
  refine Finset.sum_congr rfl fun k _ => ?_
  rw [h0, add_bit_mul_sub _ _ (h1 k h).1 (h1 k h).2 _ (hw b k)]

end Cert.KernelIdeal.Value

end
-- ==== Proof.Grid.lean ====
/-
  From the grid's points to the result's array of rows: every row of the array ends at the hidden state's row plus the
  carried row of its batch.
-/
module

public import proofs.«01_k».proof.Proof.Block

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The three tables as the region finds them: the bits as floats, the rows of the zeros, the rows of the ones. -/
abbrev bits (c : Dev nD) : Vec F S16x16 .f32 := V m c main_v2
abbrev zeros (c : Dev nD) : Vec F S16x512 .f32 := V m c main_v0
abbrev ones (c : Dev nD) : Vec F S16x512 .f32 := V m c main_v1
/-- The hidden state as the region finds it: one row per batch and time. -/
abbrev rows (c : Dev nD) : Vec F S128000x512 .f32 := V m c main_v4

/-- Where each window's block lies at a point: the tables' at the origin, the rows' at the point's number. -/
theorem index_facts : ∀ t : Fin grid0.N,
    (win0_0.index t 0 = 0 ∧ win0_0.index t 1 = 0) ∧ (win0_1.index t 0 = 0 ∧ win0_1.index t 1 = 0) ∧
    (win0_2.index t 0 = 0 ∧ win0_2.index t 1 = 0) ∧ (win0_3.index t 0 = t.val ∧ win0_3.index t 1 = 0) ∧
    (win0_4.index t 0 = t.val ∧ win0_4.index t 1 = 0) ∧ (grid0.coords t 0).val = t.val := by
  decide +kernel

/-- At every point the first window holds the whole table of bits. -/
theorem iblk_0 (c : Dev nD) (t : Fin cfg0.N) : (iblk m c 0 t : Vec F S16x16 .f32) = bits m c := by
  obtain ⟨⟨e0, e1⟩, -⟩ := index_facts t
  funext j
  unfold iblk
  rw [View.read_apply]
  refine congrArg (V m c main_v2) (funext fun a => Fin.ext ?_)
  match a with
  | ⟨0, _⟩ => show win0_0.index t 0 * 16 + 1 * (j 0).val = (j 0).val; rw [e0]; omega
  | ⟨1, _⟩ => show win0_0.index t 1 * 16 + 1 * (j 1).val = (j 1).val; rw [e1]; omega

/-- At every point the second window holds all the zeros' rows. -/
theorem iblk_1 (c : Dev nD) (t : Fin cfg0.N) : (iblk m c 1 t : Vec F S16x512 .f32) = zeros m c := by
  obtain ⟨-, ⟨e0, e1⟩, -⟩ := index_facts t
  funext j
  unfold iblk
  rw [View.read_apply]
  refine congrArg (V m c main_v0) (funext fun a => Fin.ext ?_)
  match a with
  | ⟨0, _⟩ => show win0_1.index t 0 * 16 + 1 * (j 0).val = (j 0).val; rw [e0]; omega
  | ⟨1, _⟩ => show win0_1.index t 1 * 512 + 1 * (j 1).val = (j 1).val; rw [e1]; omega

/-- At every point the third window holds all the ones' rows. -/
theorem iblk_2 (c : Dev nD) (t : Fin cfg0.N) : (iblk m c 2 t : Vec F S16x512 .f32) = ones m c := by
  obtain ⟨-, -, ⟨e0, e1⟩, -⟩ := index_facts t
  funext j
  unfold iblk
  rw [View.read_apply]
  refine congrArg (V m c main_v1) (funext fun a => Fin.ext ?_)
  match a with
  | ⟨0, _⟩ => show win0_2.index t 0 * 16 + 1 * (j 0).val = (j 0).val; rw [e0]; omega
  | ⟨1, _⟩ => show win0_2.index t 1 * 512 + 1 * (j 1).val = (j 1).val; rw [e1]; omega

/-- The block of rows at a point starts at row 4000 times the point's number. -/
theorem iblk_3 (c : Dev nD) (t : Fin cfg0.N) (y : Fin 4000) (h : Fin 512) :
    (iblk m c 3 t : Vec F S4000x512 .f32) (ix2 y h) =
      rows m c (ix2 ⟨t.val * 4000 + y.val, by have := t.isLt; have : cfg0.N = 32 := N_0; omega⟩ h) := by
  obtain ⟨-, -, -, ⟨e0, e1⟩, -⟩ := index_facts t
  unfold iblk
  rw [View.read_apply]
  refine congrArg (V m c main_v4) (funext fun a => Fin.ext ?_)
  match a with
  | ⟨0, _⟩ => show win0_3.index t 0 * 4000 + 1 * y.val = t.val * 4000 + y.val; rw [e0]; omega
  | ⟨1, _⟩ => show win0_3.index t 1 * 512 + 1 * h.val = h.val; rw [e1]; omega

/-- The carried row of a batch, from the tables as the region finds them. -/
abbrev carried (c : Dev nD) (b : Fin 16) : Vec F S1x512 .f32 := accRow (bits m c) (zeros m c) (ones m c) b

/-- A point's batch is half the point's number, rounded down. -/
theorem batch_coords (t : Fin cfg0.N) : (batch (grid0.coords t)).val = t.val / 2 := by
  show (grid0.coords t 0).val / 2 = _
  rw [(index_facts t).2.2.2.2.2]

/-- After a point the carried row is its batch's, and the result's block is the block of rows plus that row. -/
theorem outsAt_eq (c : Dev nD) : ∀ (n : ℕ) (hn : n < cfg0.N),
    outsAt0 m c n hn = (k0_pay7 (iblk m c 3 ⟨n, hn⟩) (carried m c (batch (grid0.coords ⟨n, hn⟩))),
      carried m c (batch (grid0.coords ⟨n, hn⟩))) := by
  have first : ∀ t : Fin cfg0.N, t.val % 2 = 0 → outsAt0 m c t.val t.isLt =
      (k0_pay7 (iblk m c 3 t) (carried m c (batch (grid0.coords t))), carried m c (batch (grid0.coords t))) := by
    intro t h
    rw [outsAt0_A m c t h, out_A, sout_A, iblk_0, iblk_1, iblk_2]
  intro n hn
  rcases Nat.mod_two_eq_zero_or_one n with h | h
  · exact first ⟨n, hn⟩ h
  · have h' : ¬(⟨n, hn⟩ : Fin cfg0.N).val % 2 = 0 := by show ¬n % 2 = 0; omega
    have hp : n - 1 < cfg0.N := by omega
    have e : outsAt0 m c (n - 1) hp = _ := first ⟨n - 1, hp⟩ (by show (n - 1) % 2 = 0; omega)
    have eb : batch (grid0.coords ⟨n - 1, hp⟩) = batch (grid0.coords ⟨n, hn⟩) := by
      apply Fin.ext
      rw [batch_coords, batch_coords]
      show (n - 1) / 2 = n / 2
      omega
    refine (outsAt0_B m c ⟨n, hn⟩ h').trans ?_
    rw [out_B]
    unfold sout0_B_0
    show (k0_pay7 _ (outsAt0 m c (n - 1) _).2, (outsAt0 m c (n - 1) _).2) = _
    rw [e, eb]

/-- One element of the result's block: the row's element plus the carried row's at that column. -/
theorem pay7_apply (x : Vec F S4000x512 .f32) (r : Vec F S1x512 .f32) (y : Fin 4000) (h : Fin 512) :
    k0_pay7 x r (ix2 y h) = FloatOps.addf (x (ix2 y h)) (r (ix2 0 h)) := by
  pointwise [k0_pay7]

/-- The batch of a row. -/
abbrev batchOf (r : Fin 128000) : Fin 16 := ⟨r.val / 8000, by have := r.isLt; omega⟩

/-- What the result's array ends at: each row is the hidden state's plus the carried row of its batch. -/
def result (c : Dev nD) : Buf (Elt F) ((c : Thread nD τ).loc main_v5) := fun i =>
  FloatOps.addf (rows m c (ix2 (i 0) (i 1))) (carried m c (batchOf (i 0)) (ix2 0 (i 1)))

/-- Every write-back writes that. -/
theorem flushed_eq (c : Dev nD) (t : Fin cfg0.N) :
    (dats m 0 c).flushed 4 t = ((cfg0.win 4).blk t).view.read (Elt F) (result m c) := by
  have hN : cfg0.N = 32 := N_0
  have ht := t.isLt
  obtain ⟨-, -, -, -, ⟨e0, e1⟩, -⟩ := index_facts t
  show (cfg0.win 4).cut (grid0.coords t) ((dats m 0 c).after 4 t) = _
  rw [after0_4, outsAt_eq]
  funext j
  obtain ⟨y, h, rfl⟩ : ∃ (y : Fin 4000) (h : Fin 512), j = ix2 y h :=
    ⟨j 0, j 1, funext fun a => by match a with | ⟨0, _⟩ => rfl | ⟨1, _⟩ => rfl⟩
  rw [View.read_apply]
  refine (pay7_apply _ _ y h).trans ?_
  rw [iblk_3]
  have r0 : ((cfg0.win 4).blk t).view.emb (ix2 y h) 0 = (⟨t.val * 4000 + y.val, by omega⟩ : Fin 128000) :=
    Fin.ext (by show win0_4.index t 0 * 4000 + 1 * y.val = t.val * 4000 + y.val; rw [e0]; omega)
  have r1 : ((cfg0.win 4).blk t).view.emb (ix2 y h) 1 = h :=
    Fin.ext (by show win0_4.index t 1 * 512 + 1 * h.val = h.val; rw [e1]; omega)
  show _ = result m c (((cfg0.win 4).blk t).view.emb (ix2 y h))
  unfold result
  rw [r0, r1]
  have hb : batch (grid0.coords t) = batchOf ⟨t.val * 4000 + y.val, by omega⟩ :=
    Fin.ext ((batch_coords t).trans (by show t.val / 2 = (t.val * 4000 + y.val) / 8000; have := y.isLt; omega))
  rw [hb]

/-- Every element of the array is in the block of some point. -/
theorem final (c : Dev nD) : (dats m 0 c).arrAt 4 cfg0.N = result m c :=
  (dats m 0 c).arrAt_eq_of_cover 4 (result m c) (fun t _ => flushed_eq m c t) fun i => by
    have hN : cfg0.N = 32 := N_0
    have h0 : (i 0 : Nat) < 128000 := (i 0).isLt
    have h1 : (i 1 : Nat) < 512 := (i 1).isLt
    have ht : (i 0 : Nat) / 4000 < cfg0.N := by omega
    obtain ⟨t, et⟩ : ∃ t : Fin cfg0.N, t.val = (i 0 : Nat) / 4000 := ⟨⟨_, ht⟩, rfl⟩
    refine ⟨t, flush0_4 t, ?_⟩
    obtain ⟨-, -, -, -, ⟨e0, e1⟩, -⟩ := index_facts t
    show i ∈ ((View.whole main_v5).slice (win0_4.rect t)).set
    rw [View.set_slice_whole, Rect.mem_set_unit]
    intro a
    match a with
    | ⟨0, _⟩ =>
      show win0_4.index t 0 * 4000 ≤ (i 0 : Nat) ∧ (i 0 : Nat) < win0_4.index t 0 * 4000 + 4000
      rw [e0, et]; omega
    | ⟨1, _⟩ =>
      show win0_4.index t 1 * 512 ≤ (i 1 : Nat) ∧ (i 1 : Nat) < win0_4.index t 1 * 512 + 512
      rw [e1]; omega

end Cert.KernelIdeal.Value

end
-- ==== Proof.Host.lean ====
/-
  The operations around the launch, read at an index: the tables and rows that the launch finds, and the result.
-/
module

public import proofs.«01_k».proof.Proof.Grid
public import Idealize.ShloMosaic.Lib.StableHlo.Run

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The three arguments. -/
abbrev hidden (c : Dev nD) : Vec F S16x512x8000 .f32 := m ((c : Thread nD τ).loc main_arg0)
abbrev msg (c : Dev nD) : IVec S16x16 32 := m ((c : Thread nD τ).loc main_arg1)
abbrev emb (c : Dev nD) : Vec F S32x512 .f32 := m ((c : Thread nD τ).loc main_arg2)

/-- The embedding of a bit's zero is an even row, that of its one the odd row after it. -/
abbrev evenRow (k : Fin 16) : Fin 32 := ⟨2 * k.val, by have := k.isLt; omega⟩
abbrev oddRow (k : Fin 16) : Fin 32 := ⟨2 * k.val + 1, by have := k.isLt; omega⟩

/-- The zeros' rows are the even rows of the embeddings. -/
theorem zeros_apply (c : Dev nD) (k : Fin 16) (h : Fin 512) : zeros m c (ix2 k h) = emb m c (ix2 (evenRow k) h) := by
  have e : zeros m c = Host.slice S16x512 ![0, 0] ![2, 1] (emb m c) slicesBy_S32x512_S16x512_0s2_0s1 := by
    unfold_abbrev_sides
    simp only [hostOps0, List.flatten_cons, List.flatten_nil, List.append_nil]
    after_results
    all_goals rfl
  rw [e]
  pointwise

/-- The ones' rows are the odd rows of the embeddings. -/
theorem ones_apply (c : Dev nD) (k : Fin 16) (h : Fin 512) : ones m c (ix2 k h) = emb m c (ix2 (oddRow k) h) := by
  have e : ones m c = Host.slice S16x512 ![1, 0] ![2, 1] (emb m c) slicesBy_S32x512_S16x512_1s2_0s1 := by
    unfold_abbrev_sides
    simp only [hostOps0, List.flatten_cons, List.flatten_nil, List.append_nil]
    after_results
    all_goals rfl
  rw [e]
  pointwise
  refine congrArg (emb m c) (congrArg (ix2 · h) (Fin.ext ?_))
  show 1 + 2 * k.val = 2 * k.val + 1
  omega

/-- The table of bits holds the message words as floats. -/
theorem bits_apply (c : Dev nD) (b k : Fin 16) : bits m c (ix2 b k) = FloatOps.sitofp .f32 (msg m c (ix2 b k)) := by
  have e : bits m c = sitofp .f32 (msg m c) := by
    unfold_abbrev_sides
    simp only [hostOps0, List.flatten_cons, List.flatten_nil, List.append_nil]
    after_results
    all_goals rfl
  rw [e]
  rfl

/-- A row's number from its batch and its time. -/
abbrev rowOf (b : Fin 16) (t : Fin 8000) : Fin 128000 := ⟨b.val * 8000 + t.val, by have := b.isLt; have := t.isLt; omega⟩

/-- The array of rows holds the hidden state, the columns of one batch and time in a row. -/
theorem rows_apply (c : Dev nD) (b : Fin 16) (t : Fin 8000) (h : Fin 512) :
    rows m c (ix2 (rowOf b t) h) = hidden m c (ix3 b h t) := by
  have e : rows m c = shapeCast S128000x512 (transpose S16x8000x512 [0, 2, 1] (hidden m c) transposes_S16x512x8000_S16x8000x512_0_2_1)
      shapeCasts_S16x8000x512_S128000x512 := by
    unfold_abbrev_sides
    simp only [hostOps0, List.flatten_cons, List.flatten_nil, List.append_nil]
    after_results
    all_goals rfl
  rw [e]
  pointwise
  have e0 : (⟨(b.val * 8000 + t.val) / 8000, by have := b.isLt; have := t.isLt; omega⟩ : Fin 16) = b := Fin.ext (by have := t.isLt; show (b.val * 8000 + t.val) / 8000 = b.val; omega)
  have e1 : (⟨(b.val * 8000 + t.val) % 8000, by omega⟩ : Fin 8000) = t := Fin.ext (by have := t.isLt; show (b.val * 8000 + t.val) % 8000 = t.val; omega)
  rw [e0, e1]

/-- The result, from the array of rows that the launch leaves. -/
theorem tail_eq (c : Dev nD) : Pipeline.afterTail₀ cfgs (dats m) 0 (V0 m) [hostOps1] c main_v7 =
    transpose S16x512x8000 [0, 2, 1] (shapeCast S16x8000x512 (result m c : Vec F S128000x512 .f32) shapeCasts_S128000x512_S16x8000x512)
      transposes_S16x8000x512_S16x512x8000_0_2_1 := by
  have e : Pipeline.withArrays (cfgs 0).spec c (V0 m c) (fun w => (dats m 0 c).arrAt w (cfgs 0).N)
      (Proc.devRef .tc main_v5) = result m c :=
    (Pipeline.withArrays_arr spec0 (by decide) c (V0 m c) _ 4).trans (final m c)
  unfold Pipeline.afterTail₀
  generalize Pipeline.withArrays (cfgs 0).spec c (V0 m c) (fun w => (dats m 0 c).arrAt w (cfgs 0).N) = W at e ⊢
  simp only [hostOps1, List.flatten_cons, List.flatten_nil, List.append_nil]
  after_results
  rw [← e]
  all_goals rfl

/-- An array of rows laid out as batches of columns over time. -/
theorem unrows_apply (x : Vec F S128000x512 .f32) (b : Fin 16) (h : Fin 512) (t : Fin 8000) :
    transpose S16x512x8000 [0, 2, 1] (shapeCast S16x8000x512 x shapeCasts_S128000x512_S16x8000x512)
      transposes_S16x8000x512_S16x512x8000_0_2_1 (ix3 b h t) = x (ix2 (rowOf b t) h) := by
  pointwise

/-- The result at one batch, column and time. -/
def out (c : Dev nD) : Vec F S16x512x8000 .f32 := fun i =>
  FloatOps.addf (hidden m c i) (carried m c (i 0) (ix2 0 (i 1)))

/-- The program's result is that array. -/
theorem tail_out (c : Dev nD) : Pipeline.afterTail₀ cfgs (dats m) 0 (V0 m) [hostOps1] c main_v7 = out m c := by
  rw [tail_eq]
  funext i
  obtain ⟨b, h, t, rfl⟩ : ∃ (b : Fin 16) (h : Fin 512) (t : Fin 8000), i = ix3 b h t :=
    ⟨i 0, i 1, i 2, funext fun a => by match a with | ⟨0, _⟩ => rfl | ⟨1, _⟩ => rfl | ⟨2, _⟩ => rfl⟩
  rw [unrows_apply]
  show FloatOps.addf (rows m c (ix2 (rowOf b t) h)) (carried m c (batchOf (rowOf b t)) (ix2 0 h)) =
    FloatOps.addf (hidden m c (ix3 b h t)) (carried m c b (ix2 0 h))
  have eb : batchOf (rowOf b t) = b :=
    Fin.ext (by have := t.isLt; show (b.val * 8000 + t.val) / 8000 = b.val; omega)
  rw [rows_apply, eb]

/-- The kernel's run: the result at those elements, the arguments unchanged. -/
theorem run : θ_run defs (onTc (τ := τ) (main (F := F))) ⟨m, fun _ => 0, ρ⟩ fun r => ∀ c : Dev nD,
      r.2.mem ((c : Thread nD τ).loc main_v7) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h.1 c).2 main_v7 (Pipeline.mem_restRefs_of main_v7 (by decide) (by decide))).trans (tail_out m c), h.2 c⟩)
    (θ_run_and (run_main m ρ) (unchanged m ρ))

end Cert.KernelIdeal.Value

end
-- ==== Proof.Pre.lean ====
/-
  The precondition opened: every message word is zero or one, and every even row of the embeddings is finite.
-/
module

public import proofs.«01_k».proof.Pre_bits_and_finite
public import Idealize.ShloMosaic.Lib.Pointwise
public import Idealize.ShloMosaic.Lib.ReduceAll
public import Idealize.ShloMosaic.PureOps.Ideal.Laws

@[expose] public section

noncomputable section

namespace Cert.Pre_bits_and_finite

open Idealize.ShloMosaic

/-- A conjunction of one-bit words is one only if both are. -/
theorem andi_one (a b : BitVec 1) (h : IntOp.andi a b = 1#1) : a = 1#1 ∧ b = 1#1 := by
  revert a b; decide +kernel

/-- A disjunction of one-bit words is one only if one of them is. -/
theorem ori_one (a b : BitVec 1) (h : IntOp.ori a b = 1#1) : a = 1#1 ∨ b = 1#1 := by
  revert a b; decide +kernel

/-- A comparison for equality is one only for equal words. -/
theorem cmpi_eq_one (a b : BitVec 32) (h : IntOp.cmpi .eq a b = 1#1) : a = b := by
  by_contra hne
  rw [show IntOp.cmpi .eq a b = BitVec.ofBool (a == b) from rfl, beq_eq_false_iff_ne.mpr hne] at h
  exact absurd h (by decide)

/-- An extended real whose absolute value is below the top is finite. -/
theorem finite_of_abs_lt (x : EReal) (h : BitVec.ofBool (decide (max x (-x) < ⊤)) = 1#1) : x ≠ ⊤ ∧ x ≠ ⊥ := by
  have lt : max x (-x) < ⊤ := by
    by_contra hn
    rw [decide_eq_false hn] at h
    exact absurd h (by decide)
  exact ⟨fun e => by rw [e] at lt; simp at lt, fun e => by rw [e] at lt; simp at lt⟩

variable [Facts] (x0 : FVec Ideal S16x512x8000 .f32) (x1 : IVec S16x16 32) (x2 : FVec Ideal S32x512 .f32)

instance : Subsingleton S_.Idx := ⟨fun _ _ => funext fun a => a.elim0⟩

/-- The precondition's first half: every message word is zero or one. -/
theorem fn_bits (h : fn x0 x1 x2 = fun _ => 1#1) (b k : Fin 16) : x1 (ix2 b k) = 0#32 ∨ x1 (ix2 b k) = 1#32 := by
  have e := congrFun h (Shape.Idx.first Facts.h_S_)
  dsimp only [fn] at e
  have e1 := Host.reduce_andi_all _ _ _ _ _ (andi_one _ _ e).1 (ix2 b k)
  exact (ori_one _ _ e1).imp (cmpi_eq_one _ _) (cmpi_eq_one _ _)

/-- Its second half: every even row of the embeddings is finite. -/
theorem fn_finite (h : fn x0 x1 x2 = fun _ => 1#1) (k : Fin 16) (c : Fin 512) :
    (x2 (ix2 ⟨2 * k.val, by have := k.isLt; omega⟩ c) : EReal) ≠ ⊤ ∧ (x2 (ix2 ⟨2 * k.val, by have := k.isLt; omega⟩ c) : EReal) ≠ ⊥ := by
  have e := congrFun h (Shape.Idx.first Facts.h_S_)
  dsimp only [fn] at e
  have e1 := Host.reduce_andi_all _ _ _ _ _ (andi_one _ _ e).2 (ix2 k c)
  revert e1
  have htop : Ideal.ofBits .f32 0x7F800000#32 = ⊤ := by simp [Ideal.ofBits, Ideal.ieee]
  pointwise
  rw [htop, Ideal.absf_def]
  exact finite_of_abs_lt _

end Cert.Pre_bits_and_finite

end
-- ==== Proof.Ref.lean ====
/-
  The reference read at an index: the hidden state plus the sum, bit by bit, of the row that the bit picks.
-/
module

public import proofs.«01_k».proof.Proof.Gen.ReferenceIdeal.Read
public import Idealize.ShloMosaic.Lib.Pointwise
public import Idealize.ShloMosaic.Lib.ReduceAll

@[expose] public section

noncomputable section

namespace Cert.ReferenceIdeal.Read

open Cert.ReferenceIdeal Cert.ReferenceIdeal.Gen
open Idealize.ShloMosaic Idealize.ShloMosaic.TcCoe Idealize.SL.Sem

variable {F : FTy → Type} [FloatOps F]

/-- The row that bit `k` picks: twice `k`, plus one if the bit is one. -/
def pick (w : BitVec 32) (k : Fin 16) : Fin 32 :=
  if w = 0#32 then ⟨2 * k.val, by have := k.isLt; omega⟩ else ⟨2 * k.val + 1, by have := k.isLt; omega⟩

/-- The word that the reference looks up: it is the picked row's number. -/
theorem word (w : BitVec 32) (hw : w = 0#32 ∨ w = 1#32) (k : Fin 16) :
    IntOp.addi (IntOp.muli 2#32 (BitVec.ofNat 32 k.val)) w = BitVec.ofNat 32 (pick w k).val := by
  rcases hw with rfl | rfl <;> (revert k; decide +kernel)

variable (x1 : (⟨S16x16, .i32⟩ : BufTy).Contents (Elt F)) (hx : ∀ b k : Fin 16, x1 (ix2 b k) = 0#32 ∨ x1 (ix2 b k) = 1#32)

include hx in
/-- The word looked up for a bit is the number of the row that the bit picks. -/
theorem v7_apply (b k : Fin 16) : val_main_v7 (F := F) x1 (ix2 b k) = BitVec.ofNat 32 (pick (x1 (ix2 b k)) k).val := by
  rw [← word _ (hx b k) k, val_main_v7_apply, val_main_v6_apply, val_main_v5_apply, val_main_v4_apply, val_main_v3_apply,
    val_main_v2_apply, val_main_v1_apply, val_main_c_apply, val_main_v0_apply]
  refine congrArg (fun n => IntOp.addi (IntOp.muli 2#32 (BitVec.ofNat 32 n)) (x1 (ix2 b k))) ?_
  show (((0 * 1 + 0) * 1 + 0) * 16 + (b.val * 16 + k.val) % 16) % 16 = k.val
  have := k.isLt
  omega

include hx in
/-- It is not negative, so it is looked up as it is. -/
theorem v4_apply (b k : Fin 16) :
    val_main_call0_v4 (F := F) x1 (ix2 b k) = BitVec.ofNat 32 (pick (x1 (ix2 b k)) k).val := by
  rw [val_main_call0_v4_apply, val_main_call0_v1_apply, val_main_call0_v0_apply, val_main_call0_c_apply, v7_apply x1 hx]
  have e : ∀ r : Fin 32, IntOp.cmpi .slt (BitVec.ofNat 32 r.val) 0#32 = 0#1 := by decide +kernel
  rw [e]
  rfl

include hx in
/-- The same word, in the array of look-ups with a last axis of size one. -/
theorem v5_apply (b k : Fin 16) (z : Fin 1) :
    val_main_call0_v5 (F := F) x1 (ix3 b k z) = BitVec.ofNat 32 (pick (x1 (ix2 b k)) k).val := by
  rw [val_main_call0_v5_apply]
  exact (congrArg _ (funext fun a => by match a with | ⟨0, _⟩ => rfl | ⟨1, _⟩ => rfl)).trans (v4_apply x1 hx b k)

include hx in
/-- Every row looked up is a row of the table. -/
theorem v12_apply (i : S16x16.Idx) : val_main_call0_v12 (F := F) x1 i = 1#1 := by
  refine Host.reduce_andi_one _ _ _ _ _ rfl fun j => ?_
  obtain ⟨b, k, z, rfl⟩ : ∃ (b : Fin 16) (k : Fin 16) (z : Fin 1), j = ix3 b k z :=
    ⟨j 0, j 1, j 2, funext fun a => by match a with | ⟨0, _⟩ => rfl | ⟨1, _⟩ => rfl | ⟨2, _⟩ => rfl⟩
  rw [val_main_call0_v11_apply, val_main_call0_v7_apply, val_main_call0_v10_apply, v5_apply x1 hx,
    val_main_call0_v6_apply, val_main_call0_c_2_apply, val_main_call0_v9_apply, val_main_call0_v8_apply, val_main_call0_c_1_apply]
  have e : ∀ r : Fin 32, IntOp.andi (IntOp.cmpi .sge (BitVec.ofNat 32 r.val) 0#32) (IntOp.cmpi .sle (BitVec.ofNat 32 r.val) 31#32) = 1#1 := by
    decide +kernel
  exact e _

/-- How the reference looks rows up. -/
abbrev D : GatherDims S32x512 S16x16x1 S16x16x512 := gather_S32x512_S16x16x1_S16x16x512_2_0_n_n_0_2_1512

/-- The look-up at an index: column `h` of the row that the word numbers. -/
theorem gather_apply (x2 : (⟨S32x512, .f32⟩ : BufTy).Contents (Elt F)) (idx : IVec S16x16x1 32) (b k : Fin 16) (h : Fin 512) (r : Fin 32)
    (hr : idx (ix3 b k 0) = BitVec.ofNat 32 r.val) :
    Host.gather D x2 idx (ix3 b k h) = x2 (ix2 r h) := by
  unfold Host.gather
  refine congrArg x2 (funext fun a => Fin.ext ?_)
  match a with
  | ⟨0, _⟩ =>
    show D.start (ix3 b k h) idx 0 + D.batchCoord (ix3 b k h) 0 + D.offCoord (ix3 b k h) 0 = r.val
    rw [D.batchCoord_eq_zero _ _ List.not_mem_nil,
      D.offCoord_eq_zero _ _ (fun hm => ((D.mem_sKept 0).mp hm).1 (List.mem_singleton.mpr rfl))]
    unfold GatherDims.start
    rw [dif_pos (show (0 : Fin 2) ∈ D.startIndexMap from List.mem_singleton.mpr rfl)]
    have hs : D.siIdx (ix3 b k h) ⟨D.startIndexMap.idxOf 0, List.idxOf_lt_length_iff.2 (List.mem_singleton.mpr rfl)⟩ = ix3 b k 0 :=
      funext fun a => Fin.ext (by match a with | ⟨0, _⟩ => rfl | ⟨1, _⟩ => rfl | ⟨2, _⟩ => rfl)
    rw [hs, hr]
    have e : ∀ r : Fin 32, min (BitVec.ofNat 32 r.val).toInt.toNat (32 - 1) = r.val := by decide +kernel
    exact e r
  | ⟨1, _⟩ =>
    show D.start (ix3 b k h) idx 1 + D.batchCoord (ix3 b k h) 1 + D.offCoord (ix3 b k h) 1 = h.val
    rw [D.batchCoord_eq_zero _ _ List.not_mem_nil]
    unfold GatherDims.start GatherDims.offCoord
    have h0 : (1 : Fin 2) ∉ D.startIndexMap := by decide
    have h1 : (1 : Fin 2) ∈ D.sKept := by decide
    rw [dif_neg h0, dif_pos h1]
    exact (Nat.zero_add _).trans rfl

/-- The reference's result at one batch, column and time. -/
theorem v12_value (x0 : (⟨S16x512x8000, .f32⟩ : BufTy).Contents (Elt Ideal)) (x1 : (⟨S16x16, .i32⟩ : BufTy).Contents (Elt Ideal))
    (hx : ∀ b k : Fin 16, x1 (ix2 b k) = 0#32 ∨ x1 (ix2 b k) = 1#32)
    (x2 : (⟨S32x512, .f32⟩ : BufTy).Contents (Elt Ideal)) (b : Fin 16) (h : Fin 512) (t : Fin 8000) :
    (val_main_v12 (F := Ideal) x0 x1 x2 (ix3 b h t) : EReal) =
      x0 (ix3 b h t) + ∑ k : Fin 16, (x2 (ix2 (pick (x1 (ix2 b k)) k) h) : EReal) := by
  rw [val_main_v12_apply, val_main_v11_apply, val_main_v10_apply, val_main_v9_apply, val_main_cst_apply]
  show (x0 (ix3 b h t) : EReal) + _ = _
  refine congrArg ((x0 (ix3 b h t) : EReal) + ·) ?_
  have h0 : (FloatOps.ofBits (F := Ideal) .f32 0x00000000#32 : EReal) = 0 := by
    pointwise
  refine (congrArg (· + _) h0).trans ((zero_add _).trans (Finset.sum_congr rfl fun k _ => ?_))
  rw [val_main_v8_apply, val_main_call0_v14_apply, v12_apply x1 hx]
  show val_main_call0_v13 (F := Ideal) x1 x2 _ = _
  unfold val_main_call0_v13
  refine (congrArg _ (funext fun a => ?_)).trans (gather_apply x2 _ b k h _ (v5_apply x1 hx b k 0))
  match a with
  | ⟨0, _⟩ => rfl
  | ⟨1, _⟩ => rfl
  | ⟨2, _⟩ => rfl

end Cert.ReferenceIdeal.Read

end
-- ==== Proof.lean ====
/-
  The certificate's proof: the frames of the kernel, of its idealization and of the reference, and the equality of the
  last two's results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bits_and_finite
public import proofs.«01_k».proof.Proof.Gen.ReferenceIdeal.Run
public import proofs.«01_k».proof.Proof.Gen.ReferenceIdeal.Read
public import proofs.«01_k».proof.Proof.Row
public import proofs.«01_k».proof.Proof.Host
public import proofs.«01_k».proof.Proof.Pre
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, leaves its arguments as they were and every semaphore counter at zero. -/
theorem frame_kernel : Cert.quiescent_Kernel := fun m g _ => Cert.Kernel.Gen.frame m g

/-- So does its idealization. -/
theorem frame_ideal : Cert.quiescent_KernelIdeal := fun m g _ => Cert.KernelIdeal.Gen.frame (F := Ideal) m g

/-- And from the memories the precondition admits. -/
theorem frame_ideal_pre : Cert.quiescent_KernelIdeal_pre_bits_and_finite := fun m g _ =>
  Cert.KernelIdeal.Gen.frame (F := Ideal) m g

/-- The reference runs and leaves its arguments as they were; it has no semaphores. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

section Value

variable (m : (ℓ : Loc Cert.KernelIdeal.nD Cert.KernelIdeal.τ Cert.KernelIdeal.sig) → Buf (Elt Ideal) ℓ)
variable (hpre : Cert.Pre_KernelIdeal_bits_and_finite m) (c : Dev Cert.KernelIdeal.nD)

open Cert.KernelIdeal.Value

include hpre in
/-- The kernel's result at an index, under the precondition: the hidden state plus the sum of the picked rows. -/
theorem out_value (b : Fin 16) (h : Fin 512) (t : Fin 8000) :
    (out m c (ix3 b h t) : EReal) = hidden m c (ix3 b h t) +
      ∑ k : Fin 16, (emb m c (ix2 (Cert.ReferenceIdeal.Read.pick (msg m c (ix2 b k)) k) h) : EReal) := by
  show (hidden m c (ix3 b h t) : EReal) + accRow (bits m c) (zeros m c) (ones m c) b (ix2 0 h) = _
  rw [accRow_picked (fun b k => msg m c (ix2 b k)) (Cert.Pre_bits_and_finite.fn_bits _ _ _ (hpre c)) (bits m c)
    (fun b k => bits_apply m c b k) (zeros m c) (ones m c)
    (fun k h => by rw [zeros_apply]; exact Cert.Pre_bits_and_finite.fn_finite _ _ _ (hpre c) k h) b h]
  refine congrArg (_ + ·) (Finset.sum_congr rfl fun k _ => ?_)
  unfold Cert.ReferenceIdeal.Read.pick
  split
  · exact zeros_apply m c k h
  · exact ones_apply m c k h

include hpre in
/-- The kernel's result is the reference's of the same arguments. -/
theorem out_eq_reference : out m c = Cert.ReferenceIdeal.Read.val_main_v12 (F := Ideal) (hidden m c) (msg m c) (emb m c) := by
  funext i
  obtain ⟨b, h, t, rfl⟩ : ∃ (b : Fin 16) (h : Fin 512) (t : Fin 8000), i = ix3 b h t :=
    ⟨i 0, i 1, i 2, funext fun a => by match a with | ⟨0, _⟩ => rfl | ⟨1, _⟩ => rfl | ⟨2, _⟩ => rfl⟩
  exact (out_value m hpre c b h t).trans
    (Cert.ReferenceIdeal.Read.v12_value _ _ (Cert.Pre_bits_and_finite.fn_bits _ _ _ (hpre c)) _ b h t).symm

end Value

/-- Over the extended reals, from the same arguments under the precondition, kernel and reference end at the same result. -/
theorem algebraic : Cert.algebraic_KernelIdeal_ReferenceIdeal_pre_bits_and_finite := fun m g m' g' hpre hag =>
  ⟨fun c => Cert.KernelIdeal.Value.out m c, Cert.KernelIdeal.Value.run m g,
    (θ_run Cert.ReferenceIdeal.defs _ _).mono (fun r h c => ⟨(h c).1.trans (by
        rw [Cert.ReferenceIdeal.Read.val_main_v12_eq, (hag c).1, (hag c).2.1, (hag c).2.2]
        exact (out_eq_reference m hpre c).symm), (h c).2⟩)
      (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts, Cert.Pre_bits_and_finite.Gen.facts,
    frame_kernel, frame_ideal, frame_ideal_pre,
    frame_reference, fun m g _ => frame_reference m g trivial, trivial, algebraic⟩

end Cert.Proof

end
